-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 512]⟩ ⟨3, ![2, 256, 512]⟩ (Layout.meshBlock [2, 2, 2] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![256, 512]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x512 : Shape := ⟨3, ![1, 256, 512]⟩
abbrev S256x256 : Shape := ⟨2, ![256, 256]⟩
abbrev S2 : Shape := ⟨1, ![2]⟩
abbrev S_ : Shape := ⟨0, ![]⟩
abbrev S1 : Shape := ⟨1, ![1]⟩
abbrev S128x256 : Shape := ⟨2, ![128, 256]⟩
abbrev S1x128x256 : Shape := ⟨3, ![1, 128, 256]⟩
abbrev S1x256x256 : Shape := ⟨3, ![1, 256, 256]⟩

abbrev nBuf : Space → Nat
  | .hbm => 2
  | .vmem => 3
  | .smem => 0
  | _ => 0

abbrev bufTy : (tb : Table) → Fin (tcTables nBuf tb) → BufTy
  | .hbm, ⟨0, _⟩ => ⟨S1x256x512, .f32⟩
  | .hbm, ⟨1, _⟩ => ⟨S256x256, .f32⟩
  | .local _ .vmem, ⟨0, _⟩ => ⟨S1x256x512, .f32⟩
  | .local _ .vmem, ⟨1, _⟩ => ⟨S256x256, .f32⟩
  | .local _ .vmem, ⟨2, _⟩ => ⟨S256x256, .f32⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) : Fin 3 → Nat :=
  let c0_i32_9 : BitVec 32 := 0#32
  let c0_i32_18 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c256_i32 : BitVec 32 := 256#32
  let v17 : BitVec 32 := Scalar.muli v9 c256_i32
  ![0, 0, v17.toNat]
def k0_dev2 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v18 : BitVec 32 := Scalar.muli v2 c4_i32_12
  let v19 : BitVec 32 := Scalar.addi c0_i32_13 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v20 : BitVec 32 := Scalar.muli v5 c2_i32_14
  let v21 : BitVec 32 := Scalar.addi v19 v20
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_15 : BitVec 32 := 1#32
  let v22 : BitVec 32 := Scalar.muli v9 c1_i32_15
  let v23 : BitVec 32 := Scalar.addi v21 v22
  v23.toNat
def k0_off2 (d0 : Dev nD) : Fin 3 → Nat :=
  let c0_i32_20 : BitVec 32 := 0#32
  let c128_i32_28 : BitVec 32 := 128#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c256_i32_19 : BitVec 32 := 256#32
  let v31 : BitVec 32 := Scalar.muli v9 c256_i32_19
  ![0, 128, v31.toNat]
def k0_dev3 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v32 : BitVec 32 := Scalar.muli v2 c4_i32_23
  let v33 : BitVec 32 := Scalar.addi c0_i32_24 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v34 : BitVec 32 := Scalar.muli v5 c2_i32_25
  let v35 : BitVec 32 := Scalar.addi v33 v34
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_26 : BitVec 32 := 1#32
  let v36 : BitVec 32 := Scalar.muli v9 c1_i32_26
  let v37 : BitVec 32 := Scalar.addi v35 v36
  v37.toNat
def k0_off3 (d0 : Dev nD) : Fin 3 → Nat :=
  let c0 : Index := 0#32
  let c0_30 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_29 : BitVec 32 := 256#32
  let v45 : BitVec 32 := Scalar.muli v8 c256_i32_29
  let v46 : Index := Scalar.indexCast v45
  ![0, 0, v46.toNat]
abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x256x512 : Shape := ⟨3, ![2, 256, 512]⟩
abbrev S_ : Shape := ⟨0, ![]⟩
abbrev S256x512 : Shape := ⟨2, ![256, 512]⟩

abbrev nBuf : Space → Nat
  | .hbm => 3
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S_, .f32⟩
  | .hbm, ⟨2, _⟩ => ⟨S256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Exchange.lean ====
/-
The exchange between the two devices of a `z` pair: the buffers, the semaphores and the promises made on them.

The mesh is 2 × 2 × 2 and device `c` has coordinates `(c / 4, c / 2 % 2, c % 2)`. Every device works with one other, its
MATE: the device that differs from it in the last coordinate only. A device holds one layer of the whole array and must
end with its half of the columns of the sum of both layers. So it sends its mate the columns the mate needs, in two
chunks of 128 rows, and receives the columns it needs itself in a landing buffer.

Five semaphores of a device take part, called SLOTS here:
* the barrier, raised once by the mate: "my landing buffer is free for you to write";
* for each chunk `i`, the departure semaphore: the device's own transfer of chunk `i` has read its source;
* for each chunk `i`, the arrival semaphore: the mate's transfer of chunk `i` has landed.

Every slot is raised for one reason and waited for once, so each has a single promise in a single round. What is promised
with a slot is `pledge`, and all that the later modules need to know of the promises is said once for an arbitrary slot.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: one copy for the staging of the kernel's operands, one for the exchange. -/
abbrev UU : Type := UR sig nD τ × UR sig nD τ

local notation "𝕄" => MT nD τ sig Unit (Elt F) ℕ UU ℕ

abbrev EStage : Emb (UR sig nD τ) (MT nD τ sig Unit (Elt F) ℕ UU ℕ) := embL
abbrev EX : Emb (UR sig nD τ) (MT nD τ sig Unit (Elt F) ℕ UU ℕ) := embR

variable (m : (ℓ : Loc nD τ sig) → Buf (Elt F) ℓ)

/-! ## Mates -/

/-- The device that differs from `c` in the last mesh coordinate only. -/
def mate (c : Dev nD) : Dev nD :=
  ⟨4 * (c.val / 4) + 2 * (c.val / 2 % 2) + 1 - c.val % 2, by have := c.isLt; change c.val < 8 at this; show _ < 8; omega⟩

theorem mate_mate (c : Dev nD) : mate (mate c) = c := by revert c; decide

theorem eq_mate_comm {a b : Dev nD} : a = mate b ↔ b = mate a :=
  ⟨fun h => by rw [h, mate_mate], fun h => by rw [h, mate_mate]⟩

/-- The three device numbers the kernel computes (for its signal and its two transfers) are all the mate's. -/
theorem signal_dev (c : Dev nD) : (⟨k0_dev1 c, k0_dev1_lt c⟩ : Dev nD) = mate c := Fin.ext (k0_dev1_eq c)
theorem first_dev (c : Dev nD) : (⟨k0_dev2 c, k0_dev2_lt c⟩ : Dev nD) = mate c := Fin.ext (k0_dev2_eq c)
theorem second_dev (c : Dev nD) : (⟨k0_dev3 c, k0_dev3_lt c⟩ : Dev nD) = mate c := Fin.ext (k0_dev3_eq c)

/-! ## Buffers -/

/-- A device's layer of the input, its result, and its landing buffer. -/
abbrev layer : Memref sig .tc .vmem S1x256x512 .f32 := Memref.whole cc0_stg0_0
abbrev result : Memref sig .tc .vmem S256x256 .f32 := Memref.whole cc0_stg1_0
abbrev landing : Memref sig .tc .vmem S256x256 .f32 := Memref.whole cc0_scratch0

/-- Where chunk `i` starts in a 256 × 256 buffer. -/
abbrev chunkOff : Fin 2 → Fin 2 → ℕ := fun | 0 => ![0, 0] | 1 => ![128, 0]
theorem chunkOff_eq (i : Fin 2) : chunkOff i = ![128 * i.val, 0] := by fin_cases i <;> rfl
theorem chunkOff_inb (i : Fin 2) : ∀ a, chunkOff i a + S128x256.size a ≤ S256x256.size a := by revert i; decide

/-- Chunk `i` of a 256 × 256 buffer: the upper or the lower 128 rows. -/
abbrev chunkRect (i : Fin 2) : Rect S256x256 := Rect.unit (s := S256x256) (chunkOff i) S128x256.size (chunkOff_inb i)

/-- Where the columns that `c` sends in chunk `i` start in its layer. -/
abbrev sourceOff : Fin 2 → Dev nD → Fin 3 → ℕ := fun | 0 => k0_off1 | 1 => k0_off2
theorem sourceOff_eq (i : Fin 2) (c : Dev nD) : sourceOff i c = ![0, 128 * i.val, 256 - 256 * (c.val % 2)] := by
  fin_cases i
  · exact k0_off1_eq c
  · exact k0_off2_eq c
theorem sourceOff_inb : ∀ (i : Fin 2) (c : Dev nD) (a), sourceOff i c a + S1x128x256.size a ≤ S1x256x512.size a
  | 0, c => k0_off1_inb c
  | 1, c => k0_off2_inb c

/-- What `c` sends in chunk `i`, and where chunk `i` lands. -/
abbrev source (i : Fin 2) (c : Dev nD) : Memref sig .tc .vmem S128x256 .f32 :=
  (layer.slice (Rect.unit (s := S1x256x512) (sourceOff i c) S1x128x256.size (sourceOff_inb i c)) (fun _ => rfl)).squeeze
    S128x256 squeezes_S1x128x256_S128x256
abbrev target (i : Fin 2) : Memref sig .tc .vmem S128x256 .f32 := landing.slice (chunkRect i) (fun _ => rfl)

/-- The two targets share no element and fill the landing buffer. -/
theorem target_set (i : Fin 2) : (target i).view.set = (chunkRect i).set := View.set_slice_whole cc0_scratch0 (chunkRect i)

theorem chunks_disjoint (i j : Fin 2) (h : i ≠ j) : Disjoint (chunkRect i).set (chunkRect j).set := by
  refine Rect.unit_disjoint 0 ?_
  rw [chunkOff_eq, chunkOff_eq]
  show 128 * i.val + 128 ≤ 128 * j.val ∨ 128 * j.val + 128 ≤ 128 * i.val
  have : i.val ≠ j.val := fun e => h (Fin.ext e)
  omega

theorem mem_chunk {i : Fin 2} {y : S256x256.Idx} : y ∈ (chunkRect i).set ↔ 128 * i.val ≤ (y 0).val ∧ (y 0).val < 128 * i.val + 128 := by
  rw [Rect.mem_set_unit, chunkOff_eq]
  have hy : (y 1).val < 256 := (y 1).isLt
  constructor
  · intro h; exact h 0
  · intro h a
    fin_cases a
    · exact h
    · exact ⟨Nat.zero_le _, by show (y 1).val < 0 + 256; omega⟩

theorem chunks_cover : (Finset.univ.biUnion fun i : Fin 2 => (chunkRect i).set) = Finset.univ := by
  refine Finset.eq_univ_iff_forall.mpr fun y => Finset.mem_biUnion.mpr ?_
  have hy : (y 0).val < 256 := (y 0).isLt
  by_cases h : (y 0).val < 128
  · exact ⟨0, Finset.mem_univ _, mem_chunk.mpr ⟨Nat.zero_le _, h⟩⟩
  · exact ⟨1, Finset.mem_univ _, mem_chunk.mpr ⟨by show 128 * 1 ≤ _; omega, by show _ < 128 * 1 + 128; omega⟩⟩

/-! ## Contents -/

/-- Device `c`'s layer as its kernel finds it. -/
def layerAt (c : Dev nD) : (cc0_stg0_0 : Ref sig .tc).ty.Contents (Elt F) :=
  (win0_0.blk (0 : Fin 1)).view.read (Elt F) (m ((c : Thread nD τ).loc main_arg0))

/-- The columns `c` sends in chunk `i`. -/
def sent (i : Fin 2) (c : Dev nD) : S128x256.Idx → Elt F .f32 := (source i c).view.read (Elt F) (layerAt m c)

/-- The three parts a device's right to read its layer is divided in: one lent to each transfer, one kept for its own load. -/
abbrev lent : Fin 2 → PosShare TreeShare := fun | 0 => fullShare.left | 1 => fullShare.right.left
abbrev kept : PosShare TreeShare := fullShare.right.right

/-- Device `c`'s landing buffer, free. -/
def freeLanding (c : Dev nD) : sProp 𝕄 := iprop(∃ f : Buf (Elt F) ((c : Thread nD τ).loc cc0_scratch0), ((c : Thread nD τ).loc cc0_scratch0) ↦{fullShare} f)

/-- The part of `c`'s layer that its transfer of chunk `i` reads. -/
def lentSource (i : Fin 2) (c : Dev nD) : sProp 𝕄 :=
  (source i c).view.loc (c : Thread nD τ) ↦[(source i c).view.set]{lent i} layerAt m c

/-- Chunk `i` of `c`'s landing buffer, at the given contents of the whole buffer. -/
def targetAt (i : Fin 2) (c : Dev nD) (f : Buf (Elt F) ((target i).view.loc (c : Thread nD τ))) : sProp 𝕄 :=
  (target i).view.loc (c : Thread nD τ) ↦[(target i).view.set]{fullShare} f

/-- Chunk `i` of `c`'s landing buffer, holding what its mate sent. -/
def landedChunk (i : Fin 2) (c : Dev nD) : sProp 𝕄 :=
  iprop(∃ f : Buf (Elt F) ((target i).view.loc (c : Thread nD τ)), targetAt i c ((target i).view.write (Elt F) f (sent m i (mate c)) Finset.univ))

instance freeLanding_storable (c : Dev nD) : BI.Storable (upEmb : UEmb _ 𝕄) (freeLanding (F := F) c) := by unfold freeLanding; infer_instance
instance lentSource_storable (i : Fin 2) (c : Dev nD) : BI.Storable (upEmb : UEmb _ 𝕄) (lentSource m i c) := by unfold lentSource; infer_instance
instance landedChunk_storable (i : Fin 2) (c : Dev nD) : BI.Storable (upEmb : UEmb _ 𝕄) (landedChunk m i c) := by
  unfold landedChunk targetAt; infer_instance

theorem both (Φ : Fin 2 → sProp 𝕄) : bigSep Finset.univ Φ = iprop(Φ 0 ∗ Φ 1) := BI.bigSep_fin_two Φ

/-- A free landing buffer is its two chunks, each free; -/
theorem split_landing (c : Dev nD) :
    (freeLanding c : sProp 𝕄) ⊢ iprop((∃ f, targetAt 0 c f) ∗ ∃ f, targetAt 1 c f) := by
  unfold freeLanding targetAt
  iintro ⟨%f, H⟩
  ihave H' := (Entails.of_eq ((Ring.pointsTo_blocks (ℓ := (c : Thread nD τ).loc cc0_scratch0) (fun i : Fin 2 => (chunkRect i).set) chunks_disjoint chunks_cover f).trans
    (both _))) $$ H
  icases H' with ⟨H0, H1⟩
  isplitl [H0]
  · iexists f; rw [target_set]; iexact H0
  · iexists f; rw [target_set]; iexact H1

/-- and two chunks, whatever they hold, make it again. -/
theorem join_landing (c : Dev nD) (f g) : iprop(targetAt 0 c f ∗ targetAt 1 c g) ⊢ (freeLanding (F := F) c : sProp 𝕄) := by
  unfold freeLanding targetAt
  rw [target_set, target_set]
  iintro ⟨H0, H1⟩
  iapply (Ring.pointsTo_blocks_join_exists (ℓ := (c : Thread nD τ).loc cc0_scratch0) (fun i : Fin 2 => (chunkRect i).set) chunks_disjoint chunks_cover f)
  irw [both]
  isplitl [H0]
  · iexists f; iexact H0
  · iexists g; iexact H1

/-- What is left of the lent part of `c`'s layer for chunk `i`: the elements the transfer does not read. -/
def besideSource (i : Fin 2) (c : Dev nD) : sProp 𝕄 :=
  ((c : Thread nD τ).loc cc0_stg0_0) ↦[Finset.univ \ (source i c).view.set]{lent i} layerAt m c
def keptLayer (c : Dev nD) : sProp 𝕄 := ((c : Thread nD τ).loc cc0_stg0_0) ↦{kept} layerAt m c

theorem lend (i : Fin 2) (c : Dev nD) :
    (((c : Thread nD τ).loc cc0_stg0_0) ↦{lent i} layerAt m c : sProp 𝕄) ⊣⊢ iprop(lentSource m i c ∗ besideSource m i c) :=
  pointsTo_split_subset (Finset.subset_univ _)

/-- A device's layer, divided for the two transfers and the load. -/
theorem deal_layer (c : Dev nD) :
    (((c : Thread nD τ).loc cc0_stg0_0) ↦{fullShare} layerAt m c : sProp 𝕄)
      ⊣⊢ iprop((lentSource m 0 c ∗ besideSource m 0 c) ∗ (lentSource m 1 c ∗ besideSource m 1 c) ∗ keptLayer m c) :=
  ⟨((pointsTo_share (PosShare.mem_left_op_right fullShare)).1.trans (sep_mono_right (pointsTo_share (PosShare.mem_left_op_right fullShare.right)).1)).trans
      (BIClass.sep_mono (lend m 0 c).1 (sep_mono_left (lend m 1 c).1)),
    (BIClass.sep_mono (lend m 0 c).2 (sep_mono_left (lend m 1 c).2)).trans
      ((sep_mono_right (pointsTo_share (PosShare.mem_left_op_right fullShare.right)).2).trans (pointsTo_share (PosShare.mem_left_op_right fullShare)).2)⟩

/-! ## Slots -/

abbrev chunkSem : Fin 2 → Fin 1 → ℕ := fun | 0 => ![0] | 1 => ![1]
theorem chunkSem_inb (i : Fin 2) : ∀ a, chunkSem i a + S1.size a ≤ S2.size a := by revert i; decide

abbrev barSem : Sem sig := (SemArray.scalar (sig.barrier 0 rfl) : Sems sig S_).sem
abbrev leaveSem (i : Fin 2) : DmaSem sig := ((cc0_scratch1.slice (Rect.unit (s := S2) (chunkSem i) S1.size (chunkSem_inb i))).squeeze S_ squeezes_S1_S_).sem
abbrev arriveSem (i : Fin 2) : DmaSem sig := ((cc0_scratch2.slice (Rect.unit (s := S2) (chunkSem i) S1.size (chunkSem_inb i))).squeeze S_ squeezes_S1_S_).sem

/-- The five slots of a device: the barrier, a departure per chunk, an arrival per chunk. -/
abbrev Slot : Type := Option (Fin 2 ⊕ Fin 2)
abbrev Slot.bar : Slot := none
abbrev Slot.leave (i : Fin 2) : Slot := some (.inl i)
abbrev Slot.arrive (i : Fin 2) : Slot := some (.inr i)

abbrev slotSem : Slot → SemLoc sig
  | none => .reg barSem
  | some (.inl i) => .dma (leaveSem i)
  | some (.inr i) => .dma (arriveSem i)

/-- The slots in a row. -/
abbrev slots : List Slot := [Slot.bar, Slot.leave 0, Slot.leave 1, Slot.arrive 0, Slot.arrive 1]
theorem slots_nodup : slots.Nodup := by decide
theorem slots_all : ∀ k : Slot, k ∈ slots := by rintro (_ | i | i) <;> [skip; fin_cases i; fin_cases i] <;> simp [slots]

/-- The slot a semaphore is, if any. -/
def slotOf (s : SemLoc sig) : Option Slot := slots.find? fun k => decide (slotSem k = s)
theorem slotOf_slotSem : ∀ k : Slot, slotOf (slotSem k) = some k := by decide +kernel

/-- Device `c`'s slot `k`. -/
abbrev cell (c : Dev nD) (k : Slot) : GSem nD τ sig := ((c : Thread nD τ), slotSem k)

theorem cell_inj {c d : Dev nD} {k l : Slot} (h : cell c k = cell d l) : c = d ∧ k = l :=
  ⟨congrArg (fun g : GSem nD τ sig => g.1.1) h,
    Option.some.inj ((slotOf_slotSem k).symm.trans ((congrArg (fun g : GSem nD τ sig => slotOf g.2) h).trans (slotOf_slotSem l)))⟩

/-- The device whose action raises slot `k` of `c`: the mate, but for departures, which are the device's own. -/
def payer (c : Dev nD) : Slot → Dev nD
  | some (.inl _) => c
  | _ => mate c
theorem payer_payer (c : Dev nD) (k : Slot) : payer (payer c k) k = c := by
  rcases k with _ | _ | _ <;> first | rfl | exact mate_mate c

/-- The units of one chunk's transfer. -/
abbrev N : ℕ := (target 0).view.dmaCredit
theorem N_pos : 0 < N := View.dmaCredit_pos _ (by decide)

/-- The units that a slot receives. -/
def units : Slot → ℕ | none => 1 | some _ => N
theorem units_pos (k : Slot) : 0 < units k := by rcases k with _ | _; exacts [Nat.one_pos, N_pos]

/-- What comes with slot `k` of device `c`: with the barrier, the mate's landing buffer, free; with a departure, the lent
    part of the layer back; with an arrival, the chunk of the landing buffer as the mate filled it. -/
def pledge (c : Dev nD) : Slot → sProp 𝕄
  | none => freeLanding (mate c)
  | some (.inl i) => lentSource m i c
  | some (.inr i) => landedChunk m i c

instance pledge_storable (c : Dev nD) (k : Slot) : BI.Storable (upEmb : UEmb _ 𝕄) (pledge m c k) := by
  rcases k with _ | _ | _ <;> unfold pledge <;> infer_instance

/-- The promises: one per slot of each device, in round 0. -/
def promises : Rounds.Schedule (GSem nD τ sig) Unit 𝕄 where
  duties g r := if r = 0 ∧ g.1.2 = .tc ∧ (slotOf g.2).isSome then {()} else ∅
  unitless _ := False
  amount g _ _ := (slotOf g.2).elim 1 units
  payload g _ _ := (slotOf g.2).elim iprop(emp) (pledge m g.1.1)
  amount_pos g _ _ _ := by cases h : slotOf g.2 with | none => exact Nat.one_pos | some k => exact units_pos k

instance promises_storable (g : GSem nD τ sig) (r : ℕ) (d : Unit) : BI.Storable (upEmb : UEmb _ 𝕄) ((promises (F := F) m).payload g r d) := by
  show BI.Storable upEmb ((slotOf g.2).elim iprop(emp) (pledge m g.1.1))
  cases slotOf g.2 <;> dsimp only [Option.elim] <;> infer_instance

section Promises
variable (c : Dev nD) (k : Slot)

theorem duties_cell : (promises (F := F) m).duties (cell c k) 0 = {()} :=
  if_pos ⟨rfl, rfl, by rw [slotOf_slotSem]; rfl⟩
theorem duties_later (g : GSem nD τ sig) : ∀ r, 1 ≤ r → (promises (F := F) m).duties g r = ∅ :=
  fun r hr => if_neg fun h => by omega
theorem amount_cell : (promises (F := F) m).amount (cell c k) 0 () = units k := by
  show (slotOf (slotSem k)).elim 1 units = _; rw [slotOf_slotSem]; rfl
theorem payload_cell : (promises (F := F) m).payload (cell c k) 0 () = pledge m c k := by
  show (slotOf (slotSem k)).elim iprop(emp) (pledge m c) = _; rw [slotOf_slotSem]; rfl
theorem expect_cell : (promises (F := F) m).expect (cell c k) 0 = units k := by
  unfold Schedule.expect Schedule.amountOf; rw [duties_cell, Finset.sum_singleton, amount_cell]
theorem rest_cell : bigSep ((promises (F := F) m).duties (cell c k) 0 \ ∅) (fun d => (promises (F := F) m).payload (cell c k) 0 d) = pledge m c k := by
  rw [Finset.sdiff_empty, duties_cell, bigSep_singleton, payload_cell]

end Promises

/-! ## Who waits for whom -/

/-- What `c` owes its mate: after its first transfer, after its signal, and at the start. -/
def owedLast (c : Dev nD) : CellTallies nD τ sig Unit := tallyAt (cell (mate c) (.arrive 1)) () N
def owedBoth (c : Dev nD) : CellTallies nD τ sig Unit := owedLast c + tallyAt (cell (mate c) (.arrive 0)) () N
def owedAll (c : Dev nD) : CellTallies nD τ sig Unit := owedBoth c + tallyAt (cell (mate c) .bar) () 1

/-- The waits are ordered: departures, and the staging of the operands, below barriers, and barriers below arrivals. -/
def slotRank : Slot → ℕ | none => 1 | some (.inl _) => 0 | some (.inr _) => 2
def rank (g : GSem nD τ sig) (_ : Unit) : ℕ := (slotOf g.2).elim 0 slotRank
def ranked (g : GSem nD τ sig) : Finset Unit := if g.1.2 = .tc then {()} else ∅

theorem ranked_tc {g : GSem nD τ sig} (h : g.1.2 = .tc) : ranked g = {()} := if_pos h
theorem ranked_of_ne (g : GSem nD τ sig) (h : g.1.2 ≠ .tc) : ranked g = ∅ := if_neg h
theorem rank_cell (c : Dev nD) (k : Slot) (u : Unit) : rank (cell c k) u = slotRank k := by
  show (slotOf (slotSem k)).elim 0 slotRank = _; rw [slotOf_slotSem]; rfl

/-- A device may wait on a semaphore that ranks below every slot in which it still owes its mate something. -/
theorem mayWait (c : Dev nD) (s : SemLoc sig) (O : CellTallies nD τ sig Unit)
    (h : ∀ g u, 0 < O g u → ∃ k, g = cell (mate c) k ∧ rank ((c : Thread nD τ), s) () < slotRank k) :
    (levAts ranked rank : sProp 𝕄) ⊢ MayWait (c : Thread nD τ) s () O :=
  MayOwe.of_cut (L := ranked) (lev := rank) (rank ((c : Thread nD τ), s) ())
    (fun p hp => by rw [Finset.mem_singleton.mp hp]; exact ranked_tc (g := ((c : Thread nD τ), s)) rfl ▸ Finset.mem_singleton_self _)
    (fun g u hg => by obtain ⟨k, rfl, -⟩ := h g u hg; exact ranked_tc (g := cell (mate c) k) rfl ▸ Finset.mem_singleton_self _)
    (fun p hp => by rw [Finset.mem_singleton.mp hp])
    (fun g u hg => by obtain ⟨k, rfl, hk⟩ := h g u hg; rw [rank_cell]; exact hk)

theorem owedLast_pos {c : Dev nD} {g : GSem nD τ sig} {u : Unit} (h : 0 < owedLast c g u) : g = cell (mate c) (.arrive 1) := by
  unfold owedLast at h
  rw [tallyAt_apply] at h
  by_contra hn
  rw [if_neg fun h' => hn h'.1] at h
  exact Nat.lt_irrefl 0 h

theorem owedBoth_pos {c : Dev nD} {g : GSem nD τ sig} {u : Unit} (h : 0 < owedBoth c g u) : ∃ i, g = cell (mate c) (.arrive i) := by
  unfold owedBoth at h
  rw [Pi.add_apply, Finsupp.add_apply, tallyAt_apply] at h
  by_cases hg : g = cell (mate c) (.arrive 0) ∧ u = ()
  · exact ⟨0, hg.1⟩
  · rw [if_neg hg, Nat.add_zero] at h; exact ⟨1, owedLast_pos h⟩

theorem owedAll_pos {c : Dev nD} {g : GSem nD τ sig} {u : Unit} (h : 0 < owedAll c g u) :
    g = cell (mate c) .bar ∨ ∃ i, g = cell (mate c) (.arrive i) := by
  unfold owedAll at h
  rw [Pi.add_apply, Finsupp.add_apply, tallyAt_apply] at h
  by_cases hg : g = cell (mate c) .bar ∧ u = ()
  · exact .inl hg.1
  · rw [if_neg hg, Nat.add_zero] at h; exact .inr (owedBoth_pos h)

end Cert.Exchange

end
-- ==== Proof.Body.lean ====
/-
One device's run of the kernel.

The kernel is followed effect by effect, with three steps said once for an arbitrary slot or chunk: starting a transfer
(`wp_transfer`), waiting for a slot and closing it (`wp_collect`), and adding a landed chunk to the result (`wp_add_chunk`).
`outAt` is the result as the kernel leaves it.
-/
module

public import proofs.«01_k».proof.Proof.Exchange

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The result -/

/-- The columns of its own layer that `c` keeps. -/
abbrev ownRect (c : Dev nD) : Rect S1x256x512 := Rect.unit (s := S1x256x512) (k0_off3 c) S1x256x256.size (k0_off3_inb c)
def placed (c : Dev nD) : (cc0_stg1_0 : Ref sig .tc).ty.Contents (Elt F) := k0_pay2 ((layer.access (ownRect c)).read (Elt F) (layerAt m c))

/-- The whole result. -/
abbrev allRect : Rect S256x256 := Rect.unit (s := S256x256) ![0, 0] S256x256.size inb_S256x256_S256x256_0_0

/-- The result with the chunk the mate sent added to its rows. -/
def addChunk (i : Fin 2) (c : Dev nD) (f : (cc0_stg1_0 : Ref sig .tc).ty.Contents (Elt F)) : (cc0_stg1_0 : Ref sig .tc).ty.Contents (Elt F) :=
  (result.access (chunkRect i)).write (Elt F) f (k0_pay1 ((result.access (chunkRect i)).read (Elt F) f) (sent m i (mate c))) Finset.univ

/-- What the kernel leaves in `c`'s result: its own columns, and each landed chunk added. -/
def outAt (c : Dev nD) : (cc0_stg1_0 : Ref sig .tc).ty.Contents (Elt F) := addChunk m 1 c (addChunk m 0 c (placed m c))

/-! ## Where a device starts and ends -/

/-- What everyone knows of the slots: the promises on each, and that each is in its round 0. -/
def records (K : Dev nD × Slot → ℕ) : sProp 𝕄 :=
  iprop((bigSep Finset.univ fun p : Dev nD × Slot => cellInv EX (promises m) (K p) (cell p.1 p.2))
    ∗ bigSep Finset.univ fun p : Dev nD × Slot => reached EX (cell p.1 p.2) 0)

instance records_persistent (K : Dev nD × Slot → ℕ) : BI.Persistent (records m K : sProp 𝕄) := by unfold records; infer_instance

theorem record_inv (K : Dev nD × Slot → ℕ) (c : Dev nD) (k : Slot) : (records m K : sProp 𝕄) ⊢ cellInv EX (promises m) (K (c, k)) (cell c k) := by
  unfold records
  iintro ⟨H, -⟩
  ihave H' := (Entails.of_eq (bigSep_univ_at (fun p : Dev nD × Slot => (cellInv EX (promises m) (K p) (cell p.1 p.2) : sProp 𝕄)) (c, k))) $$ H
  icases H' with ⟨H, -⟩
  iexact H

theorem record_reached (K : Dev nD × Slot → ℕ) (c : Dev nD) (k : Slot) : (records m K : sProp 𝕄) ⊢ reached EX (cell c k) 0 := by
  unfold records
  iintro ⟨-, H⟩
  ihave H' := (Entails.of_eq (bigSep_univ_at (fun p : Dev nD × Slot => (reached EX (cell p.1 p.2) 0 : sProp 𝕄)) (c, k))) $$ H
  icases H' with ⟨H, -⟩
  iexact H

/-- Device `c`'s part of the exchange: it is the one to wait on its own slots, and to raise the slots it pays for. -/
def part (c : Dev nD) : sProp 𝕄 :=
  iprop((bigSep Finset.univ fun k : Slot => atPos EX (cell c k) 0 ∅ 0) ∗ bigSep Finset.univ fun k : Slot => dutyTok EX (cell (payer c k) k) 0 ())

/-- What it is promised from the start. -/
def claims (c : Dev nD) : sProp 𝕄 :=
  iprop(cred (tallyAt (cell c .bar) () 1) ∗ cred (tallyAt (cell c (.arrive 0)) () N) ∗ cred (tallyAt (cell c (.arrive 1)) () N))

def start (c : Dev nD) : sProp 𝕄 := iprop((∃ K, records m K ∗ part c) ∗ claims c ∗ levAts ranked rank)

def before (c : Dev nD) : sProp 𝕄 := iprop(start m c ∗ freeLanding c)
def after (c : Dev nD) : sProp 𝕄 := iprop(freeLanding c ∗ bigSep Finset.univ fun k : Slot => semVal (cell c k) 0)

theorem over_slots (Φ : Slot → sProp 𝕄) :
    bigSep Finset.univ Φ = iprop(Φ .bar ∗ Φ (.leave 0) ∗ Φ (.leave 1) ∗ Φ (.arrive 0) ∗ Φ (.arrive 1)) := by
  rw [bigSep_eq_bigSepL_of_eq slots (by ext k; simp only [Finset.mem_univ, List.mem_toFinset, slots_all]) slots_nodup]; rfl

/-- What the launch is told of each device. -/
def dats (_ : Fin 1) (c : Dev nD) : Dat τ (Elt F) Unit ℕ UU ℕ cfg0 c where
  A w := m ((cfg0.win w).arr.view.loc (c : Thread nD τ))
  after w _ := match w with
    | ⟨0, _⟩ => layerAt m c
    | ⟨1, _⟩ => outAt m c
  Φ t := match t with
    | ⟨0, _⟩ => before m c
    | ⟨_ + 1, _⟩ => after c
  q _ := fullShare
  owed t := match t with
    | ⟨0, _⟩ => owedAll c
    | ⟨_ + 1, _⟩ => 0

abbrev 𝒱₀ : Variants := Variants.none

/-! ## The steps -/

/-- A chunk counts the same units at its source and at its target. -/
theorem credit_target (i : Fin 2) : (target i).view.dmaCredit = N := by fin_cases i <;> rfl
theorem credit_source (i : Fin 2) (c : Dev nD) : (source i c).view.dmaCredit = N := by fin_cases i <;> rfl

section Steps
variable (K : Dev nD × Slot → ℕ) {α : Type}

/-- Waiting for slot `k`: its pledge arrives, and the slot, of no further use, is back at zero. -/
theorem wp_collect {Q : α → sProp 𝕄} (c : Dev nD) (k : Slot) {w : TpuEff nD τ sig (Elt F) Λ₀ .tc PUnit} {n : ℕ}
    (hw : ∀ R : PUnit → sProp 𝕄, wpE (defs₀ (F := F)) 𝒱₀ (c : Thread nD τ) none Set.univ w R = waitSpec (c : Thread nD τ) Set.univ (slotSem k) n R)
    (hn : n = units k) {rest : PUnit → Prog (TpuEff nD τ sig (Elt F) Λ₀ .tc) α} {O : CellTallies nD τ sig Unit} {W : Waits sig Unit} :
    iprop(records m K ∗ cred (tallyAt (cell c k) () (units k)) ∗ owes (c : Thread nD τ) O W ∗ MayWait (c : Thread nD τ) (slotSem k) () O ∗ atPos EX (cell c k) 0 ∅ 0)
      ⊢ iprop(((owes (c : Thread nD τ) O (insert (slotSem k, ()) W) ∗ pledge m c k ∗ semVal (cell c k) 0)
            -∗ wp frame (wpE (defs₀ (F := F)) 𝒱₀ (c : Thread nD τ) none) Set.univ (rest ⟨⟩) Q)
          -∗ wp frame (wpE (defs₀ (F := F)) 𝒱₀ (c : Thread nD τ) none) Set.univ (.op w rest) Q) := by
  subst hn
  iintro ⟨#HR, Hc, HO, HM, Hat⟩ Hk
  ihave #HI := (record_inv m K c k) $$ HR
  iapply (Rounds.wp_wait_rest_token 𝒱₀ EX (promises m) (c : Thread nD τ) none (κ := K (c, k)) hw (Set.mem_univ _) () (O := O) (W := W) (R := 0) (m := 0) (T := ∅)
      (by rw [Nat.zero_add]; exact (expect_cell m c k).symm)) $$ [Hc HO HM Hat]
  · isplitr; · iexact HI
    isplitl [Hc]; · iexact Hc
    isplitl [HO]; · iexact HO
    isplitl [HM] <;> iassumption
  iintro ⟨HO, Hat, -, Hpay⟩
  ihave Hp := (Entails.of_eq (rest_cell m c k)) $$ Hpay
  imod (Rounds.cell_close EX (promises m) (Set.mem_univ (K (c, k))) (fun h => h) (R := 0 + 1) (duties_later m (cell c k))) $$ [Hat] with Hz
  · isplitr; · iexact HI
    iexact Hat
  iapply Hk
  isplitl [HO]; · iexact HO
  isplitl [Hp] <;> iassumption

/-- Starting the transfer of chunk `i` to the mate: it takes the lent part of the layer and the mate's free chunk. -/
theorem wp_transfer {Q : α → sProp 𝕄} (c n : Dev nD) (hn : n = mate c) (i : Fin 2)
    {hsc : (target i : Memref sig (Dev.tc n : Thread nD τ).2.kind .vmem S128x256 .f32).view.ref.isScScratch = false}
    {hsrc : (source i c).view.WordExact} {hdst : (target i).view.WordExact}
    {hsem : DmaTarget.Typed .vmem (.dma (arriveSem i)) (.remote (Dev.tc n : Thread nD τ) (target i) (.dma (leaveSem i)) hsc)}
    {rest : PUnit → Prog (TpuEff nD τ sig (Elt F) Λ₀ .tc) α} (f : Buf (Elt F) ((target i).view.loc (mate c : Thread nD τ)))
    {O O' : CellTallies nD τ sig Unit} (hO : O = O' + tallyAt (cell (mate c) (.arrive i)) () N) {W : Waits sig Unit} :
    iprop(records m K ∗ lentSource m i c ∗ targetAt i (mate c) f ∗ owes (c : Thread nD τ) O W
        ∗ dutyTok EX (cell c (.leave i)) 0 () ∗ dutyTok EX (cell (mate c) (.arrive i)) 0 ())
      ⊢ iprop(((cred (tallyAt (cell c (.leave i)) () N) ∗ owes (c : Thread nD τ) O' W)
            -∗ wp frame (wpE (defs₀ (F := F)) 𝒱₀ (c : Thread nD τ) none) Set.univ (rest ⟨⟩) Q)
          -∗ wp frame (wpE (defs₀ (F := F)) 𝒱₀ (c : Thread nD τ) none) Set.univ
              (.op (.enqueueDma (source i c) (.remote (Dev.tc n : Thread nD τ) (target i) (.dma (leaveSem i)) hsc) (.dma (arriveSem i)) hsrc hdst hsem) rest) Q) := by
  subst hn
  unfold lentSource targetAt
  iintro ⟨#HR, Hs, Ht, HO, Hd1, Hd2⟩
  ihave #HI1 := (record_inv m K c (.leave i)) $$ HR
  ihave #HI2 := (record_inv m K (mate c) (.arrive i)) $$ HR
  ihave #Hr1 := (record_reached m K c (.leave i)) $$ HR
  ihave #Hr2 := (record_reached m K (mate c) (.arrive i)) $$ HR
  iapply (Rounds.wp_send_pointsTo 𝒱₀ EX (promises m) (c : Thread nD τ) none (κ₁ := K (c, .leave i)) (κ₂ := K (mate c, .arrive i))
    (r₁ := 0) (r₂ := 0) (d₁ := ()) (d₂ := ()) (fd := f)
    (by rw [duties_cell m c (.leave i)]; exact Finset.mem_singleton_self _) (by rw [duties_cell m (mate c) (.arrive i)]; exact Finset.mem_singleton_self _)
    () () N (by fin_cases i <;> rfl) (amount_cell m c (.leave i)) (amount_cell m (mate c) (.arrive i)) O' hO (W := W)
    (by rw [payload_cell m c (.leave i)]; exact BI.Entails.refl _)
    (by
      rw [payload_cell m (mate c) (.arrive i)]
      unfold pledge landedChunk targetAt
      rw [mate_mate]
      iintro H; iexists f; iexact H)) $$ [Hs Ht HO Hd1 Hd2]
  isplitr; · iexact HI1
  isplitr; · iexact HI2
  isplitl [Hs]; · iexact Hs
  isplitl [Ht]; · iexact Ht
  isplitl [HO]; · iexact HO
  isplitl [Hd1]; · iexact Hd1
  isplitr; · iexact Hr1
  isplitl [Hd2]; · iexact Hd2
  iexact Hr2

/-- Adding a landed chunk to the rows of the result. -/
theorem wp_add_chunk {Q : α → sProp 𝕄} (c : Dev nD) (i : Fin 2) (f : (cc0_stg1_0 : Ref sig .tc).ty.Contents (Elt F))
    (g : Buf (Elt F) ((target i).view.loc (c : Thread nD τ)))
    {h1 : result.view.LoadsAt (chunkRect i).toLoadRect} {h2 : landing.view.LoadsAt (chunkRect i).toLoadRect} {h3 : result.view.LoadsAt (chunkRect i).toLoadRect}
    {hx : (result.access (chunkRect i)).Stores Finset.univ} {hm : (Finset.univ : Finset (chunkRect i).shape.Idx) = Finset.univ ∨ ∀ a, (chunkRect i).stride a = 1}
    {rest : PUnit → Prog (TpuEff nD τ sig (Elt F) Λ₀ .tc) α} :
    iprop((((c : Thread nD τ).loc cc0_stg1_0) ↦{fullShare} f) ∗ targetAt i c ((target i).view.write (Elt F) g (sent m i (mate c)) Finset.univ))
      ⊢ iprop((((((c : Thread nD τ).loc cc0_stg1_0) ↦{fullShare} addChunk m i c f) ∗ targetAt i c ((target i).view.write (Elt F) g (sent m i (mate c)) Finset.univ))
            -∗ wp frame (wpE (defs₀ (F := F)) 𝒱₀ (c : Thread nD τ) none) Set.univ (rest ⟨⟩) Q)
          -∗ wp frame (wpE (defs₀ (F := F)) 𝒱₀ (c : Thread nD τ) none) Set.univ
              (.op (.load result (chunkRect i).toLoadRect h1) fun v => .op (.load landing (chunkRect i).toLoadRect h2) fun w =>
                .op (.load result (chunkRect i).toLoadRect h3) fun _ => .op (.store result (chunkRect i) (k0_pay1 v w) Finset.univ hx hm) rest) Q) := by
  unfold targetAt
  iintro ⟨Ho, Ht⟩ Hk
  iapply (wp_load_rect 𝒱₀ (c : Thread nD τ) none Set.univ (m := result) (r := chunkRect i) (Finset.subset_univ _)) $$ Ho
  iintro Ho
  iapply (wp_load_rect 𝒱₀ (c : Thread nD τ) none Set.univ (m := landing) (r := chunkRect i) (Finset.Subset.refl _)) $$ Ht
  iintro Ht
  rw [show (landing.access (chunkRect i)).read (Elt F) ((target i).view.write (Elt F) g (sent m i (mate c)) Finset.univ) = sent m i (mate c)
    from View.read_write_univ _ _]
  iapply (wp_load_rect 𝒱₀ (c : Thread nD τ) none Set.univ (m := result) (r := chunkRect i) (Finset.subset_univ _)) $$ Ho
  iintro Ho
  iapply (wp_store 𝒱₀ (c : Thread nD τ) none Set.univ (m := result) (r := chunkRect i) (Mk := Finset.univ) (Finset.subset_univ _)) $$ Ho
  iintro Ho
  iapply Hk
  isplitl [Ho]
  · unfold addChunk; iexact Ho
  iexact Ht

end Steps

/-! ## The whole run -/

section Run

theorem bigSep_W (Φ : Fin cfg0.W → sProp 𝕄) : bigSep Finset.univ Φ = iprop(Φ (0 : Fin 2) ∗ Φ (1 : Fin 2)) := bigSep_W0 Φ

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)
theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A device's whole buffer, held at contents `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(before m c ∗ (dats m 0 c).owesAt () t₀.castSucc
    ∗ (∃ d, held c cc0_stg0_0 ((dats m 0 c).before (0 : Fin 2) t₀ d))
    ∗ (∃ d, held c cc0_stg1_0 ((dats m 0 c).before (1 : Fin 2) t₀ d)))

def bodyPost (c : Dev nD) : sProp 𝕄 :=
  iprop(after c ∗ (dats m 0 c).owesAt () t₀.succ ∗ held c cc0_stg0_0 (layerAt m c) ∗ held c cc0_stg1_0 (outAt m c))

theorem zero_off : (![0, 0] : Fin 2 → Nat) = fun _ => 0 := funext fun a => by fin_cases a <;> rfl
theorem write_all (f w : (cc0_stg1_0 : Ref sig .tc).ty.Contents (Elt F)) :
    (result.access allRect : View sig .tc _ _ _).write (Elt F) f w Finset.univ = w :=
  Memref.write_access_unit_zero_univ (Elt F) cc0_stg1_0 zero_off _ f w

set_option maxHeartbeats 1600000 in
theorem sound_body (c : Dev nD) :
    bodyPre m c
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) (fun _ => bodyPost m c) := by
  simp only [cc0_body_eq_skeleton, k0_part1_eq_skeleton, k0_part2_eq_skeleton, k0_part3_eq_skeleton]
  unfold cc0_body_skel
  simp only [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  unfold bodyPre before start part claims
  rw [over_slots, over_slots]
  iintro ⟨⟨⟨⟨%K, #HR, ⟨HaB, HaL0, HaL1, HaA0, HaA1⟩, HdB, HdL0, HdL1, HdA0, HdA1⟩, ⟨HcB, HcA0, HcA1⟩, #Hlev⟩, Hland⟩,
    Ho, ⟨%d0, %g0, %hg0, Hx⟩, ⟨%d1, %g1, %hg1, Hout⟩⟩
  have hx : g0 = layerAt m c := by rw [hg0]; unfold Dat.before; rw [if_pos (fetch_0 t₀)]; rfl
  subst hx
  unfold Dat.owesAt Pipeline.owesWithin
  icases Ho with ⟨%W, %hW, HO⟩
  rw [show (dats m 0 c).owed t₀.castSucc = owedAll c from rfl]
  simp only [signal_dev c]
  -- the signal: the landing buffer is the mate's to write
  ihave #HIB := (record_inv m K (mate c) .bar) $$ HR
  ihave #HrB := (record_reached m K (mate c) .bar) $$ HR
  iapply (Rounds.wp_signal 𝒱₀ EX (promises m) (c : Thread nD τ) none (dst := (mate c : Thread nD τ)) (κ := K (mate c, .bar))
      (d := ()) (by rw [duties_cell m (mate c) .bar]; exact Finset.mem_univ _) (amount_cell m (mate c) .bar) () (owedBoth c) rfl)
    $$ [HO HdB Hland]
  · isplitr; · iexact HIB
    isplitl [HO]; · iexact HO
    isplitl [HdB]; · iexact HdB
    isplitl [Hland]
    · rw [payload_cell m (mate c) .bar]; unfold pledge; rw [mate_mate]; iexact Hland
    iexact HrB
  iintro HO
  -- the barrier: the mate's landing buffer is this device's to write
  iapply (wp_collect m K c .bar (wpE_semWait_eq 𝒱₀ (c : Thread nD τ) none Set.univ) rfl (O := owedBoth c) (W := W)) $$ [HcB HO HaB]
  · isplitr; · iexact HR
    isplitl [HcB]; · iexact HcB
    isplitl [HO]; · iexact HO
    isplitr
    · iapply (mayWait c (slotSem .bar) (owedBoth c) fun g u h => by
        obtain ⟨i, rfl⟩ := owedBoth_pos h
        exact ⟨.arrive i, rfl, by rw [rank_cell c .bar]; exact Nat.lt_succ_self 1⟩)
      iexact Hlev
    iexact HaB
  unfold pledge
  iintro ⟨HO, Hmate, HzB⟩
  ihave Hm := (split_landing (mate c)) $$ Hmate
  icases Hm with ⟨⟨%e0, Ht0⟩, ⟨%e1, Ht1⟩⟩
  ihave Hd := (deal_layer m c).1 $$ Hx
  icases Hd with ⟨⟨Hs0, Hb0⟩, ⟨Hs1, Hb1⟩, Hx⟩
  -- both transfers
  iapply (wp_transfer m K c _ (first_dev c) 0 e0 (O := owedBoth c) (O' := owedLast c) rfl) $$ [Hs0 Ht0 HO HdL0 HdA0]
  · isplitr; · iexact HR
    isplitl [Hs0]; · iexact Hs0
    isplitl [Ht0]; · iexact Ht0
    isplitl [HO]; · iexact HO
    isplitl [HdL0]; · iexact HdL0
    iexact HdA0
  iintro ⟨HcL0, HO⟩
  iapply (wp_transfer m K c _ (second_dev c) 1 e1 (O := owedLast c) (O' := 0) (by rw [zero_add]; rfl)) $$ [Hs1 Ht1 HO HdL1 HdA1]
  · isplitr; · iexact HR
    isplitl [Hs1]; · iexact Hs1
    isplitl [Ht1]; · iexact Ht1
    isplitl [HO]; · iexact HO
    isplitl [HdL1]; · iexact HdL1
    iexact HdA1
  iintro ⟨HcL1, HO⟩
  -- the device's own columns, stored while the transfers run
  unfold keptLayer
  iapply (wp_load_rect 𝒱₀ (c : Thread nD τ) none Set.univ (m := layer) (r := ownRect c) (Finset.subset_univ _)) $$ Hx
  iintro Hx
  iapply (wp_load 𝒱₀ (c : Thread nD τ) none Set.univ (m := result) (Finset.subset_univ _)) $$ Hout
  iintro Hout
  iapply (wp_store 𝒱₀ (c : Thread nD τ) none Set.univ (m := result) (r := allRect) (Mk := Finset.univ) (Finset.subset_univ _)) $$ Hout
  iintro Hout
  rw [write_all]
  -- chunk 0: away, landed, added
  iapply (wp_collect m K c (.leave 0) (wpE_waitDma2_eq 𝒱₀ (c : Thread nD τ) none Set.univ (dst := source 0 c)) (credit_source 0 c) (O := 0)) $$ [HcL0 HO HaL0]
  · isplitr; · iexact HR
    isplitl [HcL0]; · iexact HcL0
    isplitl [HO]; · iexact HO
    isplitr; · rw [MayWait_zero]; iempintro
    iexact HaL0
  unfold pledge
  iintro ⟨HO, Hs0, HzL0⟩
  iapply (wp_collect m K c (.arrive 0) (wpE_waitDma2_eq 𝒱₀ (c : Thread nD τ) none Set.univ (dst := target 0)) (credit_target 0) (O := 0)) $$ [HcA0 HO HaA0]
  · isplitr; · iexact HR
    isplitl [HcA0]; · iexact HcA0
    isplitl [HO]; · iexact HO
    isplitr; · rw [MayWait_zero]; iempintro
    iexact HaA0
  unfold pledge landedChunk
  iintro ⟨HO, ⟨%l0, Hl0⟩, HzA0⟩
  iapply (wp_add_chunk m c 0 (placed m c) l0) $$ [Hout Hl0]
  · isplitl [Hout]; · iexact Hout
    iexact Hl0
  iintro ⟨Hout, Hl0⟩
  -- chunk 1 the same
  iapply (wp_collect m K c (.leave 1) (wpE_waitDma2_eq 𝒱₀ (c : Thread nD τ) none Set.univ (dst := source 1 c)) (credit_source 1 c) (O := 0)) $$ [HcL1 HO HaL1]
  · isplitr; · iexact HR
    isplitl [HcL1]; · iexact HcL1
    isplitl [HO]; · iexact HO
    isplitr; · rw [MayWait_zero]; iempintro
    iexact HaL1
  unfold pledge
  iintro ⟨HO, Hs1, HzL1⟩
  iapply (wp_collect m K c (.arrive 1) (wpE_waitDma2_eq 𝒱₀ (c : Thread nD τ) none Set.univ (dst := target 1)) (credit_target 1) (O := 0)) $$ [HcA1 HO HaA1]
  · isplitr; · iexact HR
    isplitl [HcA1]; · iexact HcA1
    isplitl [HO]; · iexact HO
    isplitr; · rw [MayWait_zero]; iempintro
    iexact HaA1
  unfold pledge landedChunk
  iintro ⟨HO, ⟨%l1, Hl1⟩, HzA1⟩
  iapply (wp_add_chunk m c 1 (addChunk m 0 c (placed m c)) l1) $$ [Hout Hl1]
  · isplitl [Hout]; · iexact Hout
    iexact Hl1
  iintro ⟨Hout, Hl1⟩
  rw [wp_ret]; imodintro
  unfold bodyPost after Dat.owesAt Pipeline.owesWithin
  rw [show (dats m 0 c).owed t₀.succ = 0 from rfl, over_slots]
  isplitl [Hl0 Hl1 HzB HzL0 HzL1 HzA0 HzA1]
  · isplitl [Hl0 Hl1]
    · iapply (join_landing c); isplitl [Hl0]; · iexact Hl0
      iexact Hl1
    isplitl [HzB]; · iexact HzB
    isplitl [HzL0]; · iexact HzL0
    isplitl [HzL1]; · iexact HzL1
    isplitl [HzA0] <;> iassumption
  isplitl [HO]
  · iexists (insert (slotSem (.arrive 1), ()) (insert (slotSem (.leave 1), ()) (insert (slotSem (.arrive 0), ())
      (insert (slotSem (.leave 0), ()) (insert (slotSem .bar, ()) W)))))
    isplitr; · ipureintro; exact fun _ _ => Or.inl trivial
    iexact HO
  isplitl [Hx Hs0 Hb0 Hs1 Hb1]
  · iexists _; isplitr; · (ipureintro; rfl)
    iapply (deal_layer m c).2
    isplitl [Hs0 Hb0]
    · isplitl [Hs0] <;> iassumption
    isplitl [Hs1 Hb1]
    · isplitl [Hs1] <;> iassumption
    unfold keptLayer; iexact Hx
  iexists _; isplitr; · (ipureintro; rfl)
  unfold outAt; iexact Hout

set_option maxRecDepth 4000 in
/-- The kernel's run, as the launch asks for it. -/
theorem body_obligation (c : Dev nD) : BodyObligation (dats (F := F) m 0 c) (defs₀ (F := F)) 𝒱₀ () Set.univ := fun t => by
  rw [fin_N t]
  rw [bigSep_W, bigSep_W]
  simp only [owns_whole_eq]
  exact sound_body m c

end Run

end Cert.Exchange

end
-- ==== Proof.Launch.lean ====
/-
The launch: from any memory with every semaphore at zero, all devices run the kernel to the end.

The ghost state of the exchange is made once for all devices and all slots, and dealt out: every device gets the right to
wait on its own slots, and the right to raise the slots it pays for. The second deal is one change of index, because the
device that pays for a slot and the device that owns it are each other's payer.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores at launch -/

/-- The slots that belong to the kernel: all but the barrier, which belongs to the runtime. -/
abbrev ownSlot (j : Fin 2 ⊕ Fin 2) : SemLoc sig := slotSem (some j)
theorem ownSlot_facts : Pipeline.OwnSemFacts cfg0.spec ownSlot := by decide

theorem zero_slots (c : Dev nD) :
    (bigSep Finset.univ fun k : Slot => semVal (cell c k) 0 : sProp 𝕄)
      = iprop(unscopedSems0 c ∗ Pipeline.ownSems0 (Ix := Unit) (Name := ℕ) (U := UU) (Lvl := ℕ) (Val := Elt F) (τ := τ) ownSlot c) := by
  rw [over_slots, Pipeline.ownSems0_eq_of_list c ownSlot [.inl 0, .inl 1, .inr 0, .inr 1] (by decide) (by decide)]
  unfold unscopedSems0
  rw [bigSep_eq_bigSepL_of_eq [SemLoc.reg barSem] (by decide) (by decide)]
  rfl

/-! ## The ghost state at launch -/

abbrev cellAt (p : Dev nD × Slot) : GSem nD τ sig := cell p.1 p.2
theorem cellAt_inj : Function.Injective cellAt := fun p q h => Prod.ext (cell_inj h).1 (cell_inj h).2
def allCells : Finset (GSem nD τ sig) := Finset.univ.map ⟨cellAt, cellAt_inj⟩

abbrev tokenAt (p : Dev nD × Slot) : GSem nD τ sig × ℕ × Unit := (cellAt p, 0, ())
theorem tokenAt_inj : Function.Injective tokenAt := fun p q h => cellAt_inj (congrArg (fun x : GSem nD τ sig × ℕ × Unit => x.1) h)
def allTokens : Finset (GSem nD τ sig × ℕ × Unit) := Finset.univ.map ⟨tokenAt, tokenAt_inj⟩

def u₀ : UU := (initOf (Pipeline.cells cfgs cellOf_inj) (Pipeline.launchToks cfgs cellOf_inj), initOf allCells allTokens)

/-- What there is at first for device `c`'s own slots, -/
def minted (c : Dev nD) : sProp 𝕄 :=
  iprop((bigSep Finset.univ fun k : Slot => roundState EX (promises m) (cell c k) 0)
    ∗ (bigSep Finset.univ fun k : Slot => atPos EX (cell c k) 0 ∅ 0)
    ∗ (bigSep Finset.univ fun k : Slot => reached EX (cell c k) 0)
    ∗ bigSep Finset.univ fun k : Slot => dutyTok EX (cell c k) 0 ())

/-- and what the device starts with. -/
def dealt (c : Dev nD) : sProp 𝕄 := iprop(∃ K, records m K ∗ part c)

theorem over_cells (Φ : GSem nD τ sig → sProp 𝕄) :
    bigSep allCells Φ = bigSep Finset.univ fun c : Dev nD => bigSep Finset.univ fun k : Slot => Φ (cell c k) := by
  unfold allCells; rw [bigSep_map, bigSep_univ_prod]; rfl
theorem over_tokens :
    bigSep allTokens (fun x => (dutyTok EX x.1 x.2.1 x.2.2 : sProp 𝕄)) = bigSep Finset.univ fun c : Dev nD => bigSep Finset.univ fun k : Slot => dutyTok EX (cell c k) 0 () := by
  unfold allTokens; rw [bigSep_map, bigSep_univ_prod]; rfl

theorem mint : BI.own (EX (initOf allCells allTokens)) ⊢ (|==> bigSep Finset.univ (minted m) : sProp 𝕄) := by
  iintro HX
  imod (Rounds.fund EX (promises m) allCells allTokens) $$ HX with ⟨Hst, Hr, Hat, Htok⟩
  imodintro
  ihave Hst' := (Entails.of_eq (over_cells fun g => roundState EX (promises m) g 0)) $$ Hst
  ihave Hat' := (Entails.of_eq (over_cells fun g => atPos EX g 0 ∅ 0)) $$ Hat
  ihave Hr' := (Entails.of_eq (over_cells fun g => reached EX g 0)) $$ Hr
  ihave Htok' := (Entails.of_eq over_tokens) $$ Htok
  unfold minted; simp only [bigSep_sep']
  isplitl [Hst']; · iexact Hst'
  isplitl [Hat']; · iexact Hat'
  isplitl [Hr'] <;> iassumption

/-- A slot at zero in round 0 becomes the promise on it. -/
theorem promise_all (c : Dev nD) :
    iprop((bigSep Finset.univ fun k : Slot => semVal (cell c k) 0) ∗ bigSep Finset.univ fun k : Slot => roundState EX (promises m) (cell c k) 0)
      ⊢ (|={Set.univ}=> bigSep Finset.univ fun k : Slot => iprop(∃ κ : ℕ, cellInv EX (promises m) κ (cell c k)) : sProp 𝕄) := by
  rw [← bigSep_sep']
  exact (bigSep_mono fun k _ => (Rounds.body_intro EX (promises m) (cell c k)).trans inv_alloc).trans (bigSep_fupd _ _)

theorem promise_dev (c : Dev nD) :
    iprop(Pipeline.ownSems0 (Ix := Unit) (Name := ℕ) (U := UU) (Lvl := ℕ) (Val := Elt F) (τ := τ) ownSlot c ∗ unscopedSems0 c ∗ minted m c)
      ⊢ |={Set.univ}=> iprop((bigSep Finset.univ fun k : Slot => iprop(∃ κ : ℕ, cellInv EX (promises m) κ (cell c k)))
          ∗ (bigSep Finset.univ fun k : Slot => atPos EX (cell c k) 0 ∅ 0)
          ∗ (bigSep Finset.univ fun k : Slot => reached EX (cell c k) 0)
          ∗ bigSep Finset.univ fun k : Slot => dutyTok EX (cell c k) 0 ()) := by
  unfold minted
  iintro ⟨Hos, Hus, Hst, Hrest⟩
  imod (promise_all m c) $$ [Hos Hus Hst] with Hinv
  · isplitl [Hos Hus]
    · rw [zero_slots]; isplitl [Hus] <;> iassumption
    iexact Hst
  imodintro
  isplitl [Hinv] <;> iassumption

/-- Who pays for what: each slot paired with the device that raises it. -/
def payers : Dev nD × Slot ≃ Dev nD × Slot where
  toFun p := (payer p.1 p.2, p.2)
  invFun p := (payer p.1 p.2, p.2)
  left_inv p := Prod.ext (payer_payer p.1 p.2) rfl
  right_inv p := Prod.ext (payer_payer p.1 p.2) rfl

theorem deal_tokens :
    (bigSep Finset.univ fun c : Dev nD => bigSep Finset.univ fun k : Slot => (dutyTok EX (cell c k) 0 () : sProp 𝕄))
      = bigSep Finset.univ fun c : Dev nD => bigSep Finset.univ fun k : Slot => dutyTok EX (cell (payer c k) k) 0 () := by
  rw [← bigSep_univ_prod (fun p : Dev nD × Slot => (dutyTok EX (cell p.1 p.2) 0 () : sProp 𝕄)), bigSep_univ_equiv payers, bigSep_univ_prod]
  rfl

theorem deal :
    (bigSep Finset.univ fun c : Dev nD => iprop((bigSep Finset.univ fun k : Slot => iprop(∃ κ : ℕ, cellInv EX (promises m) κ (cell c k)))
          ∗ (bigSep Finset.univ fun k : Slot => atPos EX (cell c k) 0 ∅ 0)
          ∗ (bigSep Finset.univ fun k : Slot => reached EX (cell c k) 0)
          ∗ bigSep Finset.univ fun k : Slot => dutyTok EX (cell c k) 0 ()) : sProp 𝕄)
      ⊢ bigSep Finset.univ (dealt m) := by
  rw [bigSep_sep', bigSep_sep', bigSep_sep', deal_tokens,
    ← bigSep_univ_prod (fun p : Dev nD × Slot => iprop(∃ κ : ℕ, cellInv EX (promises m) κ (cell p.1 p.2))),
    ← bigSep_univ_prod (fun p : Dev nD × Slot => (reached EX (cell p.1 p.2) 0 : sProp 𝕄))]
  iintro ⟨HI, Hat, #HR, Htok⟩
  ihave HK := (BI.bigSep_exists_pi Finset.univ (fun (p : Dev nD × Slot) (κ : ℕ) => (cellInv EX (promises m) κ (cell p.1 p.2) : sProp 𝕄))) $$ HI
  icases HK with ⟨%K, #HI⟩
  have h : iprop(records m K ∗ bigSep Finset.univ fun c : Dev nD => part c) ⊢ (bigSep Finset.univ (dealt m) : sProp 𝕄) :=
    (sep_mono_left (BI.bigSep_of_persistent Finset.univ (records m K))).trans (by
      rw [← bigSep_sep']
      exact bigSep_mono fun c _ => (show iprop(records m K ∗ part c) ⊢ (dealt m c : sProp 𝕄) by unfold dealt; iintro H; iexists K; iexact H))
  iapply h
  isplitr
  · unfold records; isplitl; · iexact HI
    iexact HR
  unfold part
  simp only [bigSep_sep']
  isplitl [Hat] <;> iassumption

theorem promise_and_deal :
    (bigSep Finset.univ fun c => iprop(Pipeline.ownSems0 (Ix := Unit) (Name := ℕ) (U := UU) (Lvl := ℕ) (Val := Elt F) (τ := τ) ownSlot c ∗ unscopedSems0 c ∗ minted m c) : sProp 𝕄)
      ⊢ |={Set.univ}=> bigSep Finset.univ (dealt m) :=
  ((bigSep_mono fun c _ => promise_dev m c).trans (bigSep_fupd _ _)).trans (BI.fupd_mono (deal m))

/-! ## What is owed at launch -/

/-- If every device owes its mate's slot `k` some units, each device is owed them at its own. -/
theorem owed_slot (k : Slot) (n : ℕ) (c : Dev nD) :
    (Pipeline.launchCred (fun d => tallyAt (cell (mate d) k) () n) c : sProp 𝕄) ⊢ cred (tallyAt (cell c k) () n) := by
  have h : tallyOn (cell c k) (launchCredit (Pipeline.owing fun d => tallyAt (cell (mate d) k) () n) 0 (cell c k))
      = (tallyAt (cell c k) () n : CellTallies nD τ sig Unit) := by
    unfold tallyAt
    refine congrArg _ (Finsupp.ext fun u => ?_)
    cases u
    rw [Pipeline.launchCredit_owing, Finsupp.single_eq_same, Finset.sum_eq_single (mate c)]
    · exact (tallyAt_apply _ _ _ _ _).trans (if_pos ⟨by rw [mate_mate], rfl⟩)
    · exact fun d _ hd => (tallyAt_apply _ _ _ _ _).trans (if_neg fun h => hd (eq_mate_comm.mp (cell_inj h.1).1))
    · exact fun h => absurd (Finset.mem_univ _) h
  unfold Pipeline.launchCred
  rw [bigSep_univ_at _ (slotSem k), h]
  iintro ⟨H, -⟩
  iexact H

theorem owed_all (c : Dev nD) : (Pipeline.launchCred owedAll c : sProp 𝕄) ⊢ claims c := by
  have h : (Pipeline.launchCred owedAll c : sProp 𝕄)
      = iprop((Pipeline.launchCred owedLast c ∗ Pipeline.launchCred (fun d => tallyAt (cell (mate d) (.arrive 0)) () N) c)
          ∗ Pipeline.launchCred (fun d => tallyAt (cell (mate d) .bar) () 1) c) :=
    (Pipeline.launchCred_add owedBoth (fun d => tallyAt (cell (mate d) .bar) () 1) c).trans
      (congrArg (fun X : sProp 𝕄 => iprop(X ∗ _)) (Pipeline.launchCred_add owedLast (fun d => tallyAt (cell (mate d) (.arrive 0)) () N) c))
  rw [h]
  unfold claims
  iintro ⟨⟨H1, H0⟩, HB⟩
  isplitl [HB]; · iapply (owed_slot .bar 1 c); iexact HB
  isplitl [H0]; · iapply (owed_slot (.arrive 0) N c); iexact H0
  iapply (owed_slot (.arrive 1) N c); iexact H1

/-! ## The launch's questions -/

theorem start_intro (c : Dev nD) :
    iprop(Pipeline.unscopedRestP Pipeline.Prefetch.none cfg0.spec c (fun b => m ((c : Thread nD τ).loc b)) ∗ levAts ranked rank
        ∗ Pipeline.launchCred owedAll c ∗ prngReg c (ρ c) ∗ dealt m c)
      ⊢ |={Set.univ}=> iprop(start m c ∗ emp) := by
  iintro ⟨-, Hlev, Hcr, -, HG⟩
  ihave Hc := (owed_all c) $$ Hcr
  imodintro
  unfold start dealt
  isplitl
  · isplitl [HG]; · iexact HG
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before freeLanding
  iintro ⟨Hs, -, Hr⟩
  isplitl [Hs] <;> iassumption

theorem leave (c : Dev nD) :
    (dats m 0 c).Φ (Fin.last cfg0.N) ⊢ iprop(unscopedSems0 c ∗ Pipeline.ownSems0 ownSlot c ∗ Pipeline.scopedRest cfg0.spec c) := by
  rw [show (dats m 0 c).Φ (Fin.last cfg0.N) = after c from rfl, scopedRest0_eq]
  unfold after freeLanding
  rw [zero_slots]
  iintro ⟨Hr, Hu, Ho⟩
  isplitl [Hu]; · iexact Hu
  isplitl [Ho] <;> iassumption

/-- The staging waits rank below everything a device owes. -/
theorem staging_waits (c : Dev nD) : (levAts ranked rank : sProp 𝕄) ⊢ Pipeline.cellsWaits cfgs (dats m) () 0 c :=
  Pipeline.cellsWaits_intro cfgs (dats m) () 0 c fun w s t => by
    have hs : rank ((c : Thread nD τ), SemLoc.dma (((cfg0.spec w)).sem s)) () = 0 := by
      fin_cases w <;> fin_cases s <;> rfl
    rcases t with ⟨_ | _, ht⟩
    · refine mayWait c _ (owedAll c) fun g u h => ?_
      rcases owedAll_pos h with rfl | ⟨i, rfl⟩
      · exact ⟨.bar, rfl, lt_of_eq_of_lt hs Nat.one_pos⟩
      · exact ⟨.arrive i, rfl, lt_of_eq_of_lt hs Nat.two_pos⟩
    · rw [show (dats m 0 c).owed ⟨_ + 1, ht⟩ = 0 from rfl, MayWait_zero]; iintro -; iempintro

/-! ## The run -/

def finalAt (c : Dev nD) (w : Fin cfg0.W) : Buf (Elt F) ((cfg0.win w).arr.view.loc (c : Thread nD τ)) := (dats m 0 c).arrAt w cfg0.N

theorem share_eq (c : Dev nD) (w : Fin cfg0.W) : (dats m 0 c).share w = fullShare := by unfold Dat.share; split <;> rfl

set_option maxRecDepth 8000 in
/-- From any memory with every semaphore at zero, every fair run of all devices ends, with every semaphore at zero again and
    each array as `finalAt` says. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = finalAt m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSlot_facts (Pipeline.PreFacts.none _) EStage defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := owedAll) (howed₀ := fun _ => rfl) (howedN := fun _ => rfl)
    (L := ranked) (lv := rank) (hL := ranked_of_ne) (hwaits := staging_waits m)
    (G := minted m) (G' := dealt m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := promise_and_deal m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array is as it was. -/
theorem final_argument (c : Dev nD) : finalAt m c (0 : Fin 2) = m ((c : Thread nD τ).loc main_arg0) :=
  (dats (F := F) m 0 c).arrAt_in (0 : Fin 2) rfl _

end Cert.Exchange

end
-- ==== Proof.Value.lean ====
/-
What the kernel computes: on every device, the sum of two columns of entries, its own and its mate's, and together the whole
sum over the two layers.

`outAt_apply` reads the result at one element, whichever chunk it lies in. `block_sum` says that this element is the
corresponding one of the reference's sum, for a device in either position.
-/
module

public import proofs.«01_k».proof.Proof.Launch
public import proofs.«01_k».proof.Proof.Gen.ReferenceIdeal.Run
public import Idealize.ShloMosaic.Lib.Layout
public import Idealize.ShloMosaic.Lib.Pointwise.Reduce

@[expose] public section

noncomputable section

namespace Cert.Exchange

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ)

/-! ## The staged buffers and the arrays behind them -/

/-- A device's layer is its argument. -/
theorem layerAt_eq (c : Dev nD) : layerAt m c = m ((c : Thread nD τ).loc main_arg0) :=
  Memref.read_access_unit_zero (Elt F) main_arg0 (funext fun a => by fin_cases a <;> rfl) _ _

/-- A device's result array ends as the kernel left the result. -/
theorem final_result (c : Dev nD) : finalAt m c (1 : Fin 2) = outAt m c := by
  have h : (win0_1.blk (0 : Fin 1)).view.read (Elt F) (finalAt m c (1 : Fin 2)) = outAt m c := by
    unfold finalAt
    rw [show cfg0.N = ((0 : Fin 1) : Fin cfg0.N).val + 1 from rfl, (dats m 0 c).arrAt_succ (1 : Fin 2) (0 : Fin 1)]
    rw [show (cfg0.win (1 : Fin 2)).flush (0 : Fin 1) = true from flush0_1 _, if_pos rfl]
    exact View.read_write_univ _ _
  rw [← h]
  exact (Memref.read_access_unit_zero (Elt F) main_v1 (funext fun a => by fin_cases a <;> rfl) _ _).symm

/-! ## The result, element by element -/

theorem chunk_row (i : Fin 2) (x : S128x256.Idx) : ((chunkRect i).emb x 0).val = 128 * i.val + (x 0).val := by
  show chunkOff i 0 + 1 * (x 0).val = _
  rw [chunkOff_eq, Nat.one_mul]; rfl

theorem chunk_column (i : Fin 2) (x : S128x256.Idx) : ((chunkRect i).emb x 1).val = (x 1).val := by
  show chunkOff i 1 + 1 * (x 1).val = _
  rw [chunkOff_eq, Nat.one_mul]; exact Nat.zero_add _

/-- Every element lies in a chunk, -/
theorem in_chunk (y : S256x256.Idx) : ∃ (i : Fin 2) (x : S128x256.Idx), (chunkRect i).emb x = y := by
  have hy : (y 0).val < 256 := (y 0).isLt
  refine ⟨⟨(y 0).val / 128, by omega⟩, ix2 (⟨(y 0).val % 128, by omega⟩ : Fin 128) (y 1 : Fin 256), funext fun a => Fin.ext ?_⟩
  fin_cases a
  · exact (chunk_row _ _).trans (Nat.div_add_mod _ _)
  · exact chunk_column _ _

/-- and in no other. -/
theorem other_chunk {i j : Fin 2} (h : i ≠ j) (x : S128x256.Idx) : (chunkRect j).emb x ∉ (chunkRect i).set := by
  rw [mem_chunk, chunk_row]
  have hx : (x 0).val < 128 := (x 0).isLt
  have : i.val ≠ j.val := fun e => h (Fin.ext e)
  omega

/-- Where element `y` of a device's result is found in a layer: in the left half of the columns for an even device number, in
    the right half for an odd one. -/
def cellOfLayer (d : ℕ) (y : S256x256.Idx) : S1x256x512.Idx :=
  ix3 (0 : Fin 1) (y 0 : Fin 256) (⟨256 * (d % 2) + (y 1).val, by have : (y 1).val < 256 := (y 1).isLt; omega⟩ : Fin 512)

theorem eq_cellOfLayer {d : ℕ} {y : S256x256.Idx} {k : S1x256x512.Idx} (h1 : (k 1).val = (y 0).val)
    (h2 : (k 2).val = 256 * (d % 2) + (y 1).val) : k = cellOfLayer d y := by
  funext a
  fin_cases a
  · exact Subsingleton.elim (α := Fin 1) _ _
  · exact Fin.ext h1
  · exact Fin.ext h2

/-- What a device keeps of its own layer. -/
theorem placed_apply (c : Dev nD) (y : S256x256.Idx) : placed m c y = layerAt m c (cellOfLayer c.val y) := by
  unfold placed k0_pay2
  show layerAt m c ((ownRect c).emb (Shape.reshapeEquiv _ y)) = _
  rw [Shape.reshapeEquiv_cons_one]
  refine congrArg _ (eq_cellOfLayer ?_ ?_)
  · show k0_off3 c 1 + 1 * (y 0).val = _
    rw [k0_off3_eq]; show 0 + 1 * _ = _; omega
  · show k0_off3 c 2 + 1 * (y 1).val = _
    rw [k0_off3_eq]; show 256 * (c.val % 2) + 1 * _ = _; omega

theorem mate_parity (c : Dev nD) : 256 - 256 * ((mate c).val % 2) = 256 * (c.val % 2) := by revert c; decide

/-- What the mate sends in chunk `i`. -/
theorem sent_apply (i : Fin 2) (c : Dev nD) (x : S128x256.Idx) :
    sent m i (mate c) x = layerAt m (mate c) (cellOfLayer c.val ((chunkRect i).emb x)) := by
  unfold sent
  show layerAt m (mate c) ((Rect.unit (s := S1x256x512) (sourceOff i (mate c)) S1x128x256.size (sourceOff_inb i (mate c))).emb (Shape.reshapeEquiv _ x)) = _
  rw [Shape.reshapeEquiv_cons_one]
  refine congrArg _ (eq_cellOfLayer ?_ ?_)
  · show sourceOff i (mate c) 1 + 1 * (x 0).val = _
    rw [sourceOff_eq, chunk_row, Nat.one_mul]; rfl
  · show sourceOff i (mate c) 2 + 1 * (x 1).val = _
    rw [sourceOff_eq, chunk_column, Nat.one_mul]; exact congrArg (· + (x 1).val) (mate_parity c)

/-- Adding a chunk changes its rows, -/
theorem addChunk_inside (i : Fin 2) (c : Dev nD) (f : (cc0_stg1_0 : Ref sig .tc).ty.Contents (Elt F)) (x : S128x256.Idx) :
    addChunk m i c f ((chunkRect i).emb x)
      = FloatOps.addf (φ := .f32) (f ((chunkRect i).emb x)) (sent m i (mate c) x) := by
  refine (View.write_emb_of_mem (v := result.access (chunkRect i)) f _ (Finset.mem_univ x)).trans ?_
  unfold k0_pay1
  show FloatOps.addf (φ := .f32) (f ((chunkRect i).emb (Shape.reshapeEquiv _ x))) _ = _
  rw [Shape.reshapeEquiv_self]

/-- and no others. -/
theorem addChunk_outside (i : Fin 2) (c : Dev nD) (f : (cc0_stg1_0 : Ref sig .tc).ty.Contents (Elt F)) {y : S256x256.Idx}
    (h : y ∉ (chunkRect i).set) : addChunk m i c f y = f y :=
  View.write_of_not_mem (v := result.access (chunkRect i)) f _ Finset.univ fun hy => h (by
    rw [← View.set_slice_whole cc0_stg1_0 (chunkRect i)]; exact (View.setOn_subset_set _ _) hy)

/-- At an element of chunk `i`, only chunk `i` has been added. -/
theorem outAt_chunk (i : Fin 2) (c : Dev nD) (x : S128x256.Idx) :
    outAt m c ((chunkRect i).emb x) = FloatOps.addf (φ := .f32) (placed m c ((chunkRect i).emb x)) (sent m i (mate c) x) := by
  unfold outAt
  match i with
  | 0 => rw [addChunk_outside m 1 c _ (other_chunk (by decide) x), addChunk_inside]
  | 1 => rw [addChunk_inside, addChunk_outside m 0 c _ (other_chunk (by decide) x)]

/-- An element of the result is the device's own plus the mate's. -/
theorem outAt_apply (c : Dev nD) (y : S256x256.Idx) :
    outAt m c y = FloatOps.addf (φ := .f32) (layerAt m c (cellOfLayer c.val y)) (layerAt m (mate c) (cellOfLayer c.val y)) := by
  obtain ⟨i, x, rfl⟩ := in_chunk y
  rw [outAt_chunk, placed_apply, sent_apply]

/-! ## The sum over the two layers -/

/-- The reference's result from its argument. -/
abbrev total (X : FVec Ideal Cert.ReferenceIdeal.S2x256x512 .f32) : FVec Ideal Cert.ReferenceIdeal.S256x512 .f32 :=
  Host.reduceAdd X (constant Cert.ReferenceIdeal.S_ .f32 0x00000000#32) Cert.ReferenceIdeal.Gen.reducesTo_S2x256x512_S256x512_d0
    Cert.ReferenceIdeal.Gen.h_S_

/-- An element of it: the two layers' elements, added. -/
theorem total_apply (X : FVec Ideal Cert.ReferenceIdeal.S2x256x512 .f32) (j : Cert.ReferenceIdeal.S256x512.Idx) :
    total X j = (X (ix3 (0 : Fin 2) (j 0 : Fin 256) (j 1 : Fin 512)) : EReal) + X (ix3 (1 : Fin 2) (j 0 : Fin 256) (j 1 : Fin 512)) := by
  refine (Ideal.hostReduceAdd_r3_a0 Cert.ReferenceIdeal.Gen.reducesTo_S2x256x512_S256x512_d0 X _ j).trans ?_
  rw [show (constant (F := Ideal) Cert.ReferenceIdeal.S_ .f32 0x00000000#32 (Shape.Idx.first Cert.ReferenceIdeal.Gen.h_S_) : EReal) = 0 from
    Ideal.ofBits_zero_f32, zero_add, Fin.sum_univ_two]
  rfl

/-- The layer a device holds and the columns of the result it holds. -/
abbrev layerOf (c : Dev nD) (X : FVec Ideal Cert.ReferenceIdeal.S2x256x512 .f32) : FVec Ideal S1x256x512 .f32 :=
  Layout.blockN ⟨3, ![1, 256, 512]⟩ ⟨3, ![2, 256, 512]⟩ (Layout.meshBlock [2, 2, 2] ![[2], [], []] c) X
abbrev columnsOf (c : Dev nD) (v : FVec Ideal Cert.ReferenceIdeal.S256x512 .f32) : FVec Ideal S256x256 .f32 :=
  Layout.blockN ⟨2, ![256, 256]⟩ ⟨2, ![256, 512]⟩ (Layout.meshBlock [2, 2, 2] ![[], [2]] c) v

theorem layer_number (c : Dev nD) : (Layout.meshBlock [2, 2, 2] (![[2], [], []] : Fin 3 → List ℕ) c (by decide) 0).val = c.val % 2 := by
  revert c; decide
theorem column_number (c : Dev nD) : (Layout.meshBlock [2, 2, 2] (![[], [2]] : Fin 2 → List ℕ) c (by decide) 1).val = c.val % 2 := by
  revert c; decide

/-- The element of layer `k` that lies behind element `y` of the result of a device with number `d`. -/
def entry (X : FVec Ideal Cert.ReferenceIdeal.S2x256x512 .f32) (k : Fin 2) (d : ℕ) (y : S256x256.Idx) : EReal :=
  X (ix3 k (y 0 : Fin 256) (⟨256 * (d % 2) + (y 1).val, by have : (y 1).val < 256 := (y 1).isLt; omega⟩ : Fin 512))

theorem layerOf_apply (X : FVec Ideal Cert.ReferenceIdeal.S2x256x512 .f32) (c : Dev nD) (d : ℕ) (y : S256x256.Idx) :
    layerOf c X (cellOfLayer d y) = entry X ⟨c.val % 2, Nat.mod_lt _ Nat.two_pos⟩ d y := by
  refine congrArg X (funext fun a => Fin.ext ?_)
  match a with
  | ⟨0, _⟩ =>
    show _ * 1 + 0 = c.val % 2
    rw [Nat.mul_one, Nat.add_zero]; exact layer_number c
  | ⟨1, _⟩ => show 0 * 256 + (y 0).val = (y 0).val; omega
  | ⟨2, _⟩ =>
    show 0 * 512 + (256 * (d % 2) + (y 1).val) = 256 * (d % 2) + (y 1).val; omega

theorem columnsOf_total (X : FVec Ideal Cert.ReferenceIdeal.S2x256x512 .f32) (c : Dev nD) (y : S256x256.Idx) :
    columnsOf c (total X) y = entry X 0 c.val y + entry X 1 c.val y := by
  refine (total_apply X _).trans ?_
  have h : ∀ k : Fin 2, (X (ix3 k (⟨0 * 256 + (y 0).val, by have : (y 0).val < 256 := (y 0).isLt; omega⟩ : Fin 256)
      (⟨(Layout.meshBlock [2, 2, 2] (![[], [2]] : Fin 2 → List ℕ) c (by decide) 1).val * 256 + (y 1).val,
        by have : (y 1).val < 256 := (y 1).isLt; rw [column_number]; omega⟩ : Fin 512)) : EReal) = entry X k c.val y := fun k => by
    refine congrArg X (funext fun a => Fin.ext ?_)
    match a with
    | ⟨0, _⟩ => rfl
    | ⟨1, _⟩ => show 0 * 256 + (y 0).val = (y 0).val; omega
    | ⟨2, _⟩ =>
      show _ * 256 + (y 1).val = 256 * (c.val % 2) + (y 1).val
      rw [column_number]; omega
  exact congrArg₂ (· + ·) (h 0) (h 1)

theorem own_and_mate (c : Dev nD) : (c.val % 2 = 0 ∧ (mate c).val % 2 = 1) ∨ (c.val % 2 = 1 ∧ (mate c).val % 2 = 0) := by revert c; decide

/-- If every device holds its layer of `X`, each ends with its columns of the sum. An even device adds the layers in the
    reference's order, an odd one in the other; over the extended reals the two agree. -/
theorem block_sum (m : (ℓ : Loc nD τ sig) → Buf (Elt Ideal) ℓ) (X : FVec Ideal Cert.ReferenceIdeal.S2x256x512 .f32)
    (hX : ∀ c : Dev nD, m ((c : Thread nD τ).loc main_arg0) = layerOf c X) (c : Dev nD) : outAt m c = columnsOf c (total X) := by
  funext y
  refine (outAt_apply m c y).trans ((?_ : _ = _).trans (columnsOf_total X c y).symm)
  rw [layerAt_eq, layerAt_eq, hX, hX, layerOf_apply, layerOf_apply]
  show entry X ⟨c.val % 2, _⟩ c.val y + entry X ⟨(mate c).val % 2, _⟩ c.val y = _
  have swap : ∀ (i j : Fin 2), (i.val = 0 ∧ j.val = 1) ∨ (i.val = 1 ∧ j.val = 0) →
      entry X i c.val y + entry X j c.val y = entry X 0 c.val y + entry X 1 c.val y := by
    rintro i j (⟨hi, hj⟩ | ⟨hi, hj⟩)
    · rw [show i = 0 from Fin.ext hi, show j = 1 from Fin.ext hj]
    · rw [show i = 1 from Fin.ext hi, show j = 0 from Fin.ext hj, add_comm]
  exact swap _ _ (own_and_mate c)

end Cert.Exchange

end
-- ==== Proof.lean ====
/-
The claims, each from the run of the whole program (Launch.lean) or of the reference: the frames of the kernel over machine
floats and over the extended reals, which are one program text; the frame of the reference; and the equality of what the two
compute over the extended reals (Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel leaves its argument alone and every semaphore at zero, whatever the floats are. -/
theorem kernel_frame {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  (θ_run _ _ _).mono (fun _ h => ⟨fun c => (h.1 c (0 : Fin 2)).trans (Cert.Exchange.final_argument m c), h.2⟩) (Cert.Exchange.run_main m g)

section
variable {F : FTy → Type} [FloatOps F]

/-- The program over machine floats and the one over the extended reals are one text, for any floats: the kernels, -/
theorem one_body : Cert.Kernel.defs₀ (F := F) = Cert.KernelIdeal.defs₀ (F := F) := by
  unfold Cert.Kernel.defs₀ Cert.KernelIdeal.defs₀
  refine congrArg Defs.onTc ?_
  funext ℓ x
  match ℓ, x with
  | 0, (t, s) => rfl

/-- and the tables that hold them. -/
theorem one_table : Cert.Kernel.defs (F := F) = Cert.KernelIdeal.defs (F := F) := congrArg (Pipeline.defs _) one_body
end

/-- So one proof serves both. -/
theorem frame_machine : Cert.quiescent_Kernel := fun m g _ =>
  Eq.mpr (congrArg (fun D => θ_run D (onTc (τ := Cert.Kernel.τ) (Cert.Kernel.main (F := Bits))) ⟨m, fun _ => 0, g⟩
    (fun r => (∀ c : Dev Cert.Kernel.nD, r.2.mem ((c.tc : Thread Cert.Kernel.nD Cert.Kernel.τ).loc Cert.Kernel.main_arg0)
        = m ((c.tc : Thread Cert.Kernel.nD Cert.Kernel.τ).loc Cert.Kernel.main_arg0)) ∧ r.2.sem = fun _ => 0)) one_table)
    (kernel_frame (F := Bits) m g)
theorem frame_ideal : Cert.quiescent_KernelIdeal := fun m g _ => kernel_frame (F := Ideal) m g

/-- The reference has no semaphore and leaves its argument alone. -/
theorem frame_reference : Cert.quiescent_ReferenceIdeal := fun m g _ =>
  (θ_run _ _ _).mono (fun r h => ⟨fun c => (h c).2, sem_eq_zero_of_no_sems (by decide) r.2⟩) (Cert.ReferenceIdeal.Value.run (F := Ideal) m g)

/-- Over the extended reals, every device ends with its columns of the reference's sum. -/
theorem same_sum : Cert.algebraic_KernelIdeal_ReferenceIdeal := fun m g m' g' _ hX =>
  ⟨Cert.Exchange.total (m' (((0 : Dev Cert.ReferenceIdeal.nD).tc : Thread Cert.ReferenceIdeal.nD Cert.ReferenceIdeal.τ).loc Cert.ReferenceIdeal.main_arg0)),
    (θ_run _ _ _).mono
      (fun _ h c => ⟨(h.1 c (1 : Fin 2)).trans ((Cert.Exchange.final_result m c).trans (Cert.Exchange.block_sum m _ hX c)),
        (h.1 c (0 : Fin 2)).trans (Cert.Exchange.final_argument m c)⟩)
      (Cert.Exchange.run_main (F := Ideal) m g),
    (θ_run _ _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_machine, frame_ideal, frame_reference, trivial, same_sum⟩

end Cert.Proof

end
